-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4096x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v19 : BitVec 32 := Scalar.muli v6 c2_i32_10
  let v20 : BitVec 32 := Scalar.addi c0_i32_11 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v21 : BitVec 32 := Scalar.muli v5 c1_i32_12
  let v22 : BitVec 32 := Scalar.addi v20 v21
  v22.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.KernelIdealSwap.lean ====
/- The exchange between the two devices of a mesh column, and the kernel body executed under it.

   Device `c` and the device `peer c` across the first mesh axis each sum their own rows, swap the two
   partial sums by one remote copy each way, and add. Three semaphores per device carry the exchange, called its
   PORTS below: the barrier (the peer has entered the kernel, its landing buffer may be written), the departure of the
   device's own copy, the arrival of the peer's. Each port is one cell of the rounds library with one duty in one
   round, so every table of the schedule is stated once, for all ports of all devices. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Tactic

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- Two copies of the rounds library's ghost state: the pipeline's staging cells' and the exchange's. -/
abbrev Ghosts : Type := UR sig nD τ × UR sig nD τ

local notation "𝕄" => MT nD τ sig Unit (Elt F) ℕ Ghosts ℕ

/-- The exchange's copy of the ghost state. -/
abbrev EX : Emb (UR sig nD τ) (MT nD τ sig Unit (Elt F) ℕ Ghosts ℕ) := embR

variable (m : (ℓ : Loc nD τ sig) → Buf (Elt F) ℓ)

/-! ## Devices and ports -/

set_option backward.proofsInPublic true in
/-- The device across the first mesh axis: the logical id is `2x + y`, so it is two away. -/
def peer (c : Dev nD) : Dev nD := ⟨(c.val + 2) % 4, Nat.mod_lt _ (by decide)⟩

/-- The peer's peer is the device itself. -/
theorem peer_peer (c : Dev nD) : peer (peer c) = c := by revert c; decide

/-- The signal's target, as the kernel computes it, is the peer. -/
theorem target_signal (c : Dev nD) : (⟨k0_dev1 c, k0_dev1_lt c⟩ : Dev nD) = peer c := by revert c; decide +kernel

/-- The copy's target, as the kernel computes it, is the peer. -/
theorem target_copy (c : Dev nD) : (⟨k0_dev2 c, k0_dev2_lt c⟩ : Dev nD) = peer c := by revert c; decide +kernel

/-- The three semaphores of the exchange. -/
inductive Port where
  | bar
  | sent
  | got
  deriving DecidableEq

/-- There are three ports. -/
instance : Fintype Port := ⟨{.bar, .sent, .got}, fun p => by cases p <;> decide⟩

/-- The barrier semaphore of the kernel's collective. -/
abbrev barrierSem : Sem sig := (SemArray.scalar (sig.barrier 0 rfl) : Sems sig S_).sem

/-- Which semaphore a port is. -/
def Port.sem : Port → SemLoc sig
  | .bar => .reg barrierSem
  | .sent => .dma cc0_scratch2.sem
  | .got => .dma cc0_scratch3.sem

/-- Which port a semaphore is, if any. -/
def Port.of? (s : SemLoc sig) : Option Port := [Port.bar, .sent, .got].find? fun p => p.sem = s

/-- A port's semaphore names that port. -/
theorem Port.of?_sem (p : Port) : Port.of? p.sem = some p := by revert p; decide

/-- Device `c`'s cell at port `p`. -/
abbrev cell (c : Dev nD) (p : Port) : GSem nD τ sig := ((c : Thread nD τ), p.sem)

/-- The cells of distinct devices or ports are distinct. -/
theorem cell_inj : Function.Injective fun x : Dev nD × Port => cell x.1 x.2 := by
  rintro ⟨c, p⟩ ⟨d, q⟩ h
  have hc : c = d := congrArg (fun g : GSem nD τ sig => g.1.1) h
  have hp : some p = some q := by rw [← Port.of?_sem p, ← Port.of?_sem q]; exact congrArg (fun g : GSem nD τ sig => Port.of? g.2) h
  rw [hc, Option.some.inj hp]

/-- Every cell of the exchange. -/
def cells : Finset (GSem nD τ sig) := Finset.univ.map ⟨_, cell_inj⟩

/-- Every port of every device is a cell of the exchange. -/
theorem mem_cells (c : Dev nD) (p : Port) : cell c p ∈ cells := Finset.mem_map_of_mem _ (Finset.mem_univ (c, p))

/-! ## What is exchanged -/

/-- The units one partial sum's copy credits a semaphore. -/
abbrev units : ℕ := (Memref.whole cc0_scratch1 : Memref sig .tc .vmem S1x1024 .f32).view.dmaCredit

/-- Device `c`'s block of the argument, as staged. -/
def rows (c : Dev nD) : (cc0_stg0_0 : Ref sig .tc).ty.Contents (Elt F) :=
  (win0_0.blk (0 : Fin 1)).view.read (Elt F) (m ((c : Thread nD τ).loc main_arg0))

/-- Its partial sum: the sum of its own rows. -/
def part (c : Dev nD) : S1x1024.Idx → Elt F .f32 := k0_pay2 (rows m c)

/-- What device `c` returns: the scaled sum of its own partial sum and its peer's. -/
def mean (c : Dev nD) : S1x1024.Idx → Elt F .f32 := k0_pay1 (part m c) (part m (peer c))

/-- Device `c`'s buffer of its own partial sum, at contents `f`. -/
def mine (c : Dev nD) (f : S1x1024.Idx → Elt F .f32) : sProp 𝕄 :=
  (Memref.whole cc0_scratch0 : Memref sig .tc .vmem S1x1024 .f32).view.loc (c : Thread nD τ) ↦{fullShare} f
/-- Device `c`'s buffer of its peer's partial sum, at contents `f`. -/
def theirs (c : Dev nD) (f : S1x1024.Idx → Elt F .f32) : sProp 𝕄 :=
  (Memref.whole cc0_scratch1 : Memref sig .tc .vmem S1x1024 .f32).view.loc (c : Thread nD τ) ↦{fullShare} f

/-- What a full port hands its device. Barrier: the peer's landing buffer, at any contents, and that the peer's arrival
    cell is open. Departure: the device's own buffer back, still holding its partial sum. Arrival: its landing buffer,
    holding the peer's partial sum. -/
def hand (c : Dev nD) : Port → sProp 𝕄
  | .bar => iprop((∃ f, theirs (peer c) f) ∗ reached EX (cell (peer c) .got) 0)
  | .sent => mine c (part m c)
  | .got => theirs c (part m (peer c))

/-- The schedule: each cell has one duty, in round 0 — one unit at a barrier, a copy's units elsewhere. -/
def sched : Rounds.Schedule (GSem nD τ sig) Unit 𝕄 where
  duties g r := if r = 0 ∧ g ∈ cells then {()} else ∅
  amount g _ _ := if Port.of? g.2 = some .bar then 1 else units
  payload g _ _ := (Port.of? g.2).elim iprop(emp) (hand m g.1.1)
  amount_pos g _ _ _ := by
    split
    · exact Nat.one_pos
    · exact View.dmaCredit_pos _ (by decide)

/-- What a port hands over may be kept in a cell's invariant. -/
instance (c : Dev nD) (p : Port) : BI.Storable (upEmb : UEmb _ 𝕄) (hand m c p) := by
  cases p <;> (unfold hand mine theirs; infer_instance)

/-- So every payload of the schedule may be kept in a cell's invariant. -/
instance (g : GSem nD τ sig) (r : ℕ) (d : Unit) : BI.Storable (upEmb : UEmb _ 𝕄) ((sched m).payload g r d) := by
  unfold sched; dsimp only
  cases Port.of? g.2 <;> (dsimp only [Option.elim]; infer_instance)

/-- How many units fill port `p`. -/
abbrev Port.need : Port → ℕ
  | .bar => 1
  | _ => units

/-- In round 0 every cell has its one duty. -/
theorem duties_cell (c : Dev nD) (p : Port) : (sched m).duties (cell c p) 0 = {()} := if_pos ⟨rfl, mem_cells c p⟩

/-- After round 0 no cell has a duty. -/
theorem duties_done (g : GSem nD τ sig) (r : ℕ) (h : 1 ≤ r) : (sched m).duties g r = ∅ := if_neg fun ⟨h0, _⟩ => by omega

/-- The duty of a port is worth the units that fill it. -/
theorem amount_cell (c : Dev nD) (p : Port) (d : Unit) : (sched m).amount (cell c p) 0 d = p.need := by
  show (if Port.of? p.sem = some .bar then 1 else units) = _
  rw [Port.of?_sem]; cases p <;> rfl

/-- The duty of a port carries what the port hands its device. -/
theorem payload_cell (c : Dev nD) (p : Port) (d : Unit) : (sched m).payload (cell c p) 0 d = hand m c p := by
  show (Port.of? p.sem).elim iprop(emp) (hand m c) = _
  rw [Port.of?_sem]; rfl

/-- A wait at a port expects the units that fill it. -/
theorem expect_cell (c : Dev nD) (p : Port) : (sched m).expect (cell c p) 0 = p.need := by
  unfold Schedule.expect Schedule.amountOf; rw [duties_cell, Finset.sum_singleton, amount_cell]

/-! ## What a device owes, and in which order the ports are waited for -/

/-- What device `c` owes from the launch: its copy's units at its peer's arrival cell, one unit at its peer's barrier. -/
def debt (c : Dev nD) : CellTallies nD τ sig Unit := tallyAt (cell (peer c) .got) () units + tallyAt (cell (peer c) .bar) () 1

/-- Each TensorCore semaphore is waited for at the one index. -/
def ixs (g : GSem nD τ sig) : Finset Unit := if g.1.2 = .tc then {()} else ∅

/-- When a port is waited for: the barrier before the arrival, the departure at any time. -/
abbrev Port.turn : Port → ℕ
  | .bar => 1
  | .got => 2
  | .sent => 0

/-- The waiting order: a port's turn, and 0 for every other semaphore. -/
def lev (g : GSem nD τ sig) (_ : Unit) : ℕ := (Port.of? g.2).elim 0 Port.turn

/-- A port's level is its turn. -/
theorem lev_cell (c : Dev nD) (p : Port) : lev (cell c p) () = p.turn := by
  show (Port.of? p.sem).elim 0 Port.turn = _
  rw [Port.of?_sem]; rfl

/-- A device may wait at a cell below everything it owes. -/
theorem may_wait (c : Dev nD) (s : SemLoc sig) (D : CellTallies nD τ sig Unit)
    (h : ∀ g i, 0 < D g i → ∃ p, g = cell (peer c) p ∧ lev ((c : Thread nD τ), s) () < p.turn) :
    (levAts ixs lev : sProp 𝕄) ⊢ MayWait (c : Thread nD τ) s () D :=
  Pipeline.mayWait_of_levAts (Finset.mem_singleton_self _) fun g i hg => by
    obtain ⟨p, rfl, hl⟩ := h g i hg
    exact ⟨Finset.mem_singleton_self _, by rw [lev_cell]; exact hl⟩

/-- At its barrier a device owes its copy only, which is waited for later. -/
theorem may_wait_bar (c : Dev nD) :
    (levAts ixs lev : sProp 𝕄) ⊢ MayWait (c : Thread nD τ) (.reg barrierSem) () (tallyAt (cell (peer c) .got) () units) :=
  may_wait c _ _ fun g i hg => ⟨.got, (Pipeline.tallyAt_pos hg).1, (lev_cell c .bar).trans_lt (by decide)⟩

/-- A semaphore of level 0 may be waited for while the whole debt is outstanding. -/
theorem may_wait_low (c : Dev nD) (s : SemLoc sig) (hs : lev ((c : Thread nD τ), s) () = 0) :
    (levAts ixs lev : sProp 𝕄) ⊢ MayWait (c : Thread nD τ) s () (debt c) :=
  may_wait c s _ fun g i hg => by
    rw [hs]
    rcases Pipeline.add_pos_cases hg with h | h
    · exact ⟨.got, (Pipeline.tallyAt_pos h).1, by decide⟩
    · exact ⟨.bar, (Pipeline.tallyAt_pos h).1, by decide⟩

/-! ## The device's share of the exchange -/

/-- The device whose cell device `c` fills at port `p`: its own departure, its peer's barrier and arrival. -/
def fills (c : Dev nD) : Port → Dev nD
  | .sent => c
  | _ => peer c

/-- What every device knows: the invariant of each cell, under the names `κ`, and that each is open. -/
def known (κ : GSem nD τ sig → ℕ) : sProp 𝕄 :=
  iprop((bigSep cells fun g => cellInv EX (sched m) (κ g) g) ∗ bigSep cells fun g => reached EX g 0)

/-- What is known of the cells may be used any number of times. -/
instance (κ : GSem nD τ sig → ℕ) : BI.Persistent (known m κ) := by unfold known; infer_instance

/-- Of what is known: the invariant of one port's cell. -/
theorem known_inv (κ : GSem nD τ sig → ℕ) (c : Dev nD) (p : Port) : known m κ ⊢ cellInv EX (sched m) (κ (cell c p)) (cell c p) :=
  sep_elim_left.trans (bigSep_elim (mem_cells c p))

/-- Of what is known: one port's cell has reached round 0. -/
theorem known_open (κ : GSem nD τ sig → ℕ) (c : Dev nD) (p : Port) : known m κ ⊢ reached EX (cell c p) 0 :=
  sep_elim_right.trans (bigSep_elim (mem_cells c p))

/-- Device `c`'s share of the exchange's ghost state: what every device knows; its position at each of its ports; for
    each port the right to fill the cell it fills. -/
def share (c : Dev nD) : sProp 𝕄 :=
  iprop(∃ κ, known m κ ∗ (bigSep Finset.univ fun p => atPos EX (cell c p) 0 ∅ 0)
    ∗ bigSep Finset.univ fun p => dutyTok EX (cell (fills c p) p) 0 ())

/-- What device `c` enters the kernel with: its share, the credit of the units its peer owes it, the waiting order. -/
def entry (c : Dev nD) : sProp 𝕄 :=
  iprop(share m c ∗ (cred (tallyAt (cell c .got) () units) ∗ cred (tallyAt (cell c .bar) () 1)) ∗ levAts ixs lev)

/-- A conjunction over the ports, port by port. -/
theorem ports_eq (Φ : Port → sProp 𝕄) : bigSep Finset.univ Φ = iprop(Φ .bar ∗ Φ .sent ∗ Φ .got) :=
  bigSep_univ_eq_bigSepL [Port.bar, Port.sent, Port.got] (by decide) (by decide) Φ

end Cert.KernelIdeal.Swap

end
-- ==== Proof.KernelIdealBody.lean ====
/- The kernel body on one device, executed against the exchange of `KernelIdealSwap`. -/
module

public import proofs.«01_k».proof.Proof.KernelIdealSwap

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ Ghosts ℕ

variable (m : (ℓ : Loc nD τ sig) → Buf (Elt F) ℓ)

/-- Before the body: the device's share of the exchange and its two scratch buffers, at any contents. -/
def before (c : Dev nD) : sProp 𝕄 := iprop(entry m c ∗ (∃ f, mine c f) ∗ ∃ f, theirs c f)

/-- After it: both partial sums in place, and all three semaphores back at zero. -/
def after (c : Dev nD) : sProp 𝕄 :=
  iprop(mine c (part m c) ∗ theirs c (part m (peer c)) ∗ bigSep Finset.univ fun p => semVal (cell c p) 0)

/-- The pipeline's data: the argument's block is staged in, the mean staged out, at the grid's one point. -/
def dats (_ : Fin 1) (c : Dev nD) : Dat τ (Elt F) Unit ℕ Ghosts ℕ cfg0 c where
  A w := m ((cfg0.win w).arr.view.loc (c : Thread nD τ))
  after w _ := match w with
    | ⟨0, _⟩ => rows m c
    | ⟨1, _⟩ => mean m c
  Φ t := match t with
    | ⟨0, _⟩ => before m c
    | ⟨_ + 1, _⟩ => after m c
  q _ := fullShare
  owed t := match t with
    | ⟨0, _⟩ => debt c
    | ⟨_ + 1, _⟩ => 0

/-- The buffer of the own partial sum as the copy's source. -/
theorem mine_set (c : Dev nD) (f : S1x1024.Idx → Elt F .f32) :
    mine c f = ((Memref.whole cc0_scratch0 : Memref sig .tc .vmem S1x1024 .f32).view.loc (c : Thread nD τ)
      ↦[(Memref.whole cc0_scratch0 : Memref sig .tc .vmem S1x1024 .f32).view.set]{fullShare} f : sProp 𝕄) := by
  rw [show (Memref.whole cc0_scratch0 : Memref sig .tc .vmem S1x1024 .f32).view.set = Finset.univ from View.set_whole _]; rfl

/-- The landing buffer as the copy's target. -/
theorem theirs_set (c : Dev nD) (f : S1x1024.Idx → Elt F .f32) :
    theirs c f = ((Memref.whole cc0_scratch1 : Memref sig .tc .vmem S1x1024 .f32).view.loc (c : Thread nD τ)
      ↦[(Memref.whole cc0_scratch1 : Memref sig .tc .vmem S1x1024 .f32).view.set]{fullShare} f : sProp 𝕄) := by
  rw [show (Memref.whole cc0_scratch1 : Memref sig .tc .vmem S1x1024 .f32).view.set = Finset.univ from View.set_whole _]; rfl

/-- The zero offsets of the kernel's accesses. -/
theorem hz : (![0, 0] : Fin 2 → ℕ) = fun _ => 0 := funext fun a => by fin_cases a <;> rfl

/-- A load of a whole buffer, through the rectangle of its own sizes at zero offsets, reads its contents. -/
theorem wp_read (c : Dev nD) {cs : CoreSpace} {i : Fin (sig.nNear .tc cs)} {hκ : sig.names .tc cs i = true} {off : Fin (sig.tyNear .tc cs i).shape.rank → ℕ}
    (h : off = fun _ => 0) {inb : ∀ a, off a + (sig.tyNear .tc cs i).shape.size a ≤ (sig.tyNear .tc cs i).shape.size a}
    {hl : (Memref.whole ⟨cs, i, hκ⟩ : Memref sig .tc _ _ _).view.LoadsAt (Rect.unit off (sig.tyNear .tc cs i).shape.size inb).toLoadRect}
    {α : Type} {k : (sig.tyNear .tc cs i).Contents (Elt F) → Prog (TpuEff nD τ sig (Elt F) Λ₀ .tc) α} {Q : α → sProp 𝕄}
    {f : Buf (Elt F) ((c : Thread nD τ).loc ⟨cs, i, hκ⟩)} :
    (((c : Thread nD τ).loc ⟨cs, i, hκ⟩) ↦{fullShare} f)
      ⊢ iprop(((((c : Thread nD τ).loc ⟨cs, i, hκ⟩) ↦{fullShare} f) -∗ wp frame (wpE (defs₀ (F := F)) Variants.none (c : Thread nD τ) none) Set.univ (k f) Q)
        -∗ wp frame (wpE (defs₀ (F := F)) Variants.none (c : Thread nD τ) none) Set.univ
          (.op (.load (Memref.whole ⟨cs, i, hκ⟩) (Rect.unit off (sig.tyNear .tc cs i).shape.size inb).toLoadRect hl) k) Q) := by
  subst h
  exact wp_load_whole Variants.none (c : Thread nD τ) none Set.univ

/-- A store to a whole buffer, through the same rectangle, leaves what is stored. -/
theorem wp_fill (c : Dev nD) {cs : CoreSpace} {i : Fin (sig.nNear .tc cs)} {hκ : sig.names .tc cs i = true} {off : Fin (sig.tyNear .tc cs i).shape.rank → ℕ}
    (h : off = fun _ => 0) {inb : ∀ a, off a + (sig.tyNear .tc cs i).shape.size a ≤ (sig.tyNear .tc cs i).shape.size a}
    {w : (sig.tyNear .tc cs i).Contents (Elt F)}
    {hx : ((Memref.whole ⟨cs, i, hκ⟩).access (Rect.unit off (sig.tyNear .tc cs i).shape.size inb) : View sig .tc _ _ _).Stores Finset.univ}
    {hm : Finset.univ = Finset.univ ∨ ∀ a, (Rect.unit off (sig.tyNear .tc cs i).shape.size inb).stride a = 1}
    {α : Type} {k : PUnit → Prog (TpuEff nD τ sig (Elt F) Λ₀ .tc) α} {Q : α → sProp 𝕄}
    {f : Buf (Elt F) ((c : Thread nD τ).loc ⟨cs, i, hκ⟩)} :
    (((c : Thread nD τ).loc ⟨cs, i, hκ⟩) ↦{fullShare} f)
      ⊢ iprop(((((c : Thread nD τ).loc ⟨cs, i, hκ⟩) ↦{fullShare} w) -∗ wp frame (wpE (defs₀ (F := F)) Variants.none (c : Thread nD τ) none) Set.univ (k ⟨⟩) Q)
        -∗ wp frame (wpE (defs₀ (F := F)) Variants.none (c : Thread nD τ) none) Set.univ
          (.op (.store (Memref.whole ⟨cs, i, hκ⟩) (Rect.unit off (sig.tyNear .tc cs i).shape.size inb) w Finset.univ hx hm) k) Q) := by
  subst h
  exact wp_store_whole Variants.none (c : Thread nD τ) none Set.univ

/-- The two buffers of a copy credit the same units. -/
theorem credit_sent : (Memref.whole cc0_scratch0 : Memref sig .tc .vmem S1x1024 .f32).view.dmaCredit = units := rfl

/-- Each cell's one duty is among its round's. -/
theorem duty_mem (c : Dev nD) (p : Port) : () ∈ (sched m).duties (cell c p) 0 := by
  rw [duties_cell]; exact Finset.mem_singleton_self _

/-- The signal: the device hands its landing buffer to its peer, and pays its debt at the peer's barrier. -/
theorem wp_enter (c n : Dev nD) (hn : n = peer c) (κ : ℕ) {α : Type} {k : PUnit → Prog (TpuEff nD τ sig (Elt F) Λ₀ .tc) α}
    {Q : α → sProp 𝕄} {W : Waits sig Unit} (f : S1x1024.Idx → Elt F .f32) :
    iprop(cellInv EX (sched m) κ (cell (peer c) .bar) ∗ owes (c : Thread nD τ) (debt c) W ∗ dutyTok EX (cell (peer c) .bar) 0 ()
        ∗ (theirs c f ∗ reached EX (cell c .got) 0) ∗ reached EX (cell (peer c) .bar) 0)
      ⊢ iprop((owes (c : Thread nD τ) (tallyAt (cell (peer c) .got) () units) W
            -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barrierSem 1) k) Q) := by
  subst hn
  have hp : iprop(theirs c f ∗ reached EX (cell c .got) 0 : sProp 𝕄) ⊢ (sched m).payload (cell (peer c) .bar) 0 () := by
    rw [payload_cell]; unfold hand; rw [peer_peer]
    iintro ⟨H, #Hr⟩
    isplitl [H]
    · iexists f; iexact H
    · iexact Hr
  exact (sep_mono_right (sep_mono_right (sep_mono_right (sep_mono_left hp)))).trans
    (Rounds.wp_signal (defs := defs₀ (F := F)) Variants.none EX (sched m) (c : Thread nD τ) none (duty_mem m (peer c) .bar) (amount_cell m (peer c) .bar ()) ()
      (tallyAt (cell (peer c) .got) () units) rfl)

/-- Waiting at a full port: the device gets what the port hands it, and the port's semaphore back at zero. -/
theorem wp_take (c : Dev nD) (p : Port) (κ : ℕ) {w : TpuEff nD τ sig (Elt F) Λ₀ .tc PUnit} {α : Type}
    (hw : ∀ K : PUnit → sProp 𝕄, wpE (defs₀ (F := F)) Variants.none (c : Thread nD τ) none Set.univ w K = waitSpec (c : Thread nD τ) Set.univ p.sem p.need K)
    {k : PUnit → Prog (TpuEff nD τ sig (Elt F) Λ₀ .tc) α} {Q : α → sProp 𝕄} {O : CellTallies nD τ sig Unit} {W : Waits sig Unit} :
    iprop(cellInv EX (sched m) κ (cell c p) ∗ cred (tallyAt (cell c p) () p.need) ∗ owes (c : Thread nD τ) O W
        ∗ MayWait (c : Thread nD τ) p.sem () O ∗ atPos EX (cell c p) 0 ∅ 0)
      ⊢ iprop(((owes (c : Thread nD τ) O (insert (p.sem, ()) W) ∗ semVal (cell c p) 0 ∗ hand m c p)
            -∗ wp frame (wpE (defs₀ (F := F)) Variants.none (c : Thread nD τ) none) Set.univ (k ⟨⟩) Q)
          -∗ wp frame (wpE (defs₀ (F := F)) Variants.none (c : Thread nD τ) none) Set.univ (.op w k) Q) := by
  iintro ⟨#HI, Hc, HO, Hw, Hat⟩ Hk
  iapply (Rounds.wp_wait_rest_token Variants.none EX (sched m) (c : Thread nD τ) none hw (Set.mem_univ κ) () (O := O) (W := W) (R := 0) (m := 0) (T := ∅)
    (by rw [Nat.zero_add, expect_cell])) $$ [Hc HO Hw Hat]
  · isplitr; · iexact HI
    isplitl [Hc]; · iexact Hc
    isplitl [HO]; · iexact HO
    isplitl [Hw] <;> iassumption
  rw [Finset.sdiff_empty, duties_cell, bigSep_singleton, payload_cell]
  iintro ⟨HO, Hat, -, Hp⟩
  imod (Rounds.cell_close EX (sched m) (Set.mem_univ κ) (fun h => h) (R := 0 + 1) (duties_done m _)) $$ [Hat] with Hz
  · isplitr; · iexact HI
    iexact Hat
  iapply Hk
  isplitl [HO]; · iexact HO
  isplitl [Hz] <;> iassumption

/-- The copy: the device gives its own partial sum's buffer and its peer's landing buffer, and pays its copy's debt. -/
theorem wp_copy (c n : Dev nD) (hn : n = peer c) (κ₁ κ₂ : ℕ) {α : Type} {hsrc : (Memref.whole cc0_scratch0 : Memref sig .tc .vmem S1x1024 .f32).view.WordExact}
    {hdst : (Memref.whole cc0_scratch1 : Memref sig .tc .vmem S1x1024 .f32).view.WordExact}
    {hsc : (Memref.whole cc0_scratch1 : Memref sig .tc .vmem S1x1024 .f32).view.ref.isScScratch = false}
    {hsem : DmaTarget.Typed .vmem (SemLoc.dma cc0_scratch3.sem : SemLoc sig) (.remote (Dev.tc n : Thread nD τ) (Memref.whole cc0_scratch1 : Memref sig .tc .vmem S1x1024 .f32) (SemLoc.dma cc0_scratch2.sem : SemLoc sig) hsc)}
    {k : PUnit → Prog (TpuEff nD τ sig (Elt F) Λ₀ .tc) α} {Q : α → sProp 𝕄} {W : Waits sig Unit} (f : S1x1024.Idx → Elt F .f32) :
    iprop(cellInv EX (sched m) κ₁ (cell c .sent) ∗ cellInv EX (sched m) κ₂ (cell (peer c) .got) ∗ mine c (part m c) ∗ theirs (peer c) f
        ∗ owes (c : Thread nD τ) (tallyAt (cell (peer c) .got) () units) W ∗ dutyTok EX (cell c .sent) 0 () ∗ reached EX (cell c .sent) 0
        ∗ dutyTok EX (cell (peer c) .got) 0 () ∗ reached EX (cell (peer c) .got) 0)
      ⊢ iprop(((cred (tallyAt (cell c .sent) () units) ∗ owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
            (.op (.enqueueDma (Memref.whole cc0_scratch0) (.remote (Dev.tc n) (Memref.whole cc0_scratch1) (.dma cc0_scratch2.sem) hsc) (.dma cc0_scratch3.sem) hsrc hdst hsem) k) Q) := by
  subst hn
  have hp₁ : (mine c (part m c) : sProp 𝕄) ⊢ (sched m).payload (cell c .sent) 0 () := by rw [payload_cell]; exact entails_refl _
  have hp₂ : (theirs (peer c) (part m c) : sProp 𝕄) ⊢ (sched m).payload (cell (peer c) .got) 0 () := by
    rw [payload_cell]; unfold hand; rw [peer_peer]
  rw [mine_set] at hp₁ ⊢
  rw [theirs_set] at hp₂ ⊢
  exact Rounds.wp_send_pointsTo (defs := defs₀ (F := F)) Variants.none EX (sched m) (c : Thread nD τ) none
    (duty_mem m c .sent) (duty_mem m (peer c) .got) () () units rfl
    (amount_cell m c .sent ()) (amount_cell m (peer c) .got ()) 0 (by rw [zero_add]) (W := W) hp₁ (by
      rw [show (Memref.whole cc0_scratch1 : Memref sig .tc .vmem S1x1024 .f32).view.write (Elt F) f
        ((Memref.whole cc0_scratch0 : Memref sig .tc .vmem S1x1024 .f32).view.read (Elt F) (part m c)) Finset.univ = part m c from
          View.write_whole_univ _ _ _]
      exact hp₂)

/-- The kernel body on one device, statement by statement: signal, sum, wait for the peer, copy, wait for both ends of
    the exchange, add and scale. -/
theorem body_wp (c : Dev nD) (κ : GSem nD τ sig → ℕ) (W : Waits sig Unit) (f0 f1 fo : S1x1024.Idx → Elt F .f32)
    (hs : (⟨k0_dev1 c, k0_dev1_lt c⟩ : Dev nD) = peer c) (ht : (⟨k0_dev2 c, k0_dev2_lt c⟩ : Dev nD) = peer c) :
    iprop(known m κ ∗ atPos EX (cell c .bar) 0 ∅ 0 ∗ atPos EX (cell c .sent) 0 ∅ 0 ∗ atPos EX (cell c .got) 0 ∅ 0
        ∗ dutyTok EX (cell (peer c) .bar) 0 () ∗ dutyTok EX (cell c .sent) 0 () ∗ dutyTok EX (cell (peer c) .got) 0 ()
        ∗ cred (tallyAt (cell c .got) () units) ∗ cred (tallyAt (cell c .bar) () 1) ∗ levAts ixs lev
        ∗ mine c f0 ∗ theirs c f1 ∗ owes (c : Thread nD τ) (debt c) W
        ∗ ((Memref.whole cc0_stg0_0 : Memref sig .tc .vmem S4096x1024 .f32).view.loc (c : Thread nD τ) ↦{fullShare} rows m c) ∗ ((Memref.whole cc0_stg1_0 : Memref sig .tc .vmem S1x1024 .f32).view.loc (c : Thread nD τ) ↦{fullShare} fo))
      ⊢ wp frame (wpE (defs₀ (F := F)) Variants.none c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3)
          (fun _ => iprop(after m c ∗ (∃ W', owes (c : Thread nD τ) 0 W')
            ∗ ((Memref.whole cc0_stg0_0 : Memref sig .tc .vmem S4096x1024 .f32).view.loc (c : Thread nD τ) ↦{fullShare} rows m c) ∗ ((Memref.whole cc0_stg1_0 : Memref sig .tc .vmem S1x1024 .f32).view.loc (c : Thread nD τ) ↦{fullShare} mean m c))) := by
  rw [cc0_body_eq_skeleton]; unfold cc0_body_skel
  rw [k0_part1_eq_skeleton]; unfold k0_part1_skel
  iintro ⟨#HK, Hpb, Hps, Hpg, Htb, Hts, Htg, Hcg, Hcb, #Hlev, Hm, Ht, HO, Hx, Ho⟩
  ihave #Ib := (known_inv m κ c .bar) $$ HK
  ihave #Is := (known_inv m κ c .sent) $$ HK
  ihave #Ig := (known_inv m κ c .got) $$ HK
  ihave #Ipb := (known_inv m κ (peer c) .bar) $$ HK
  ihave #Ipg := (known_inv m κ (peer c) .got) $$ HK
  ihave #Rs := (known_open m κ c .sent) $$ HK
  ihave #Rg := (known_open m κ c .got) $$ HK
  ihave #Rpb := (known_open m κ (peer c) .bar) $$ HK
  have hmw := may_wait_bar (F := F) c
  simp only [semSignalWord, semWaitWord, Prog.lift, Prog.bind_op, Prog.bind_ret, Prog.pure_eq_ret, wp_deviceId]
  iapply (wp_enter m c _ hs (κ (cell (peer c) .bar)) f1) $$ [HO Htb Ht]
  · isplitr; · iexact Ipb
    isplitl [HO]; · iexact HO
    isplitl [Htb]; · iexact Htb
    isplitl [Ht]
    · isplitl [Ht]
      · iexact Ht
      · iexact Rg
    · iexact Rpb
  iintro HO
  iapply (wp_read c hz) $$ Hx
  iintro Hx
  unfold mine
  iapply (wp_read c hz) $$ Hm
  iintro Hm
  iapply (wp_fill c hz) $$ Hm
  iintro Hm
  iapply (wp_take m c .bar (κ (cell c .bar)) (wpE_semWait_eq Variants.none (c : Thread nD τ) none Set.univ)) $$ [Hcb HO Hpb]
  · isplitr; · iexact Ib
    isplitl [Hcb]; · iexact Hcb
    isplitl [HO]; · iexact HO
    isplitr; · iapply hmw $$ Hlev
    iexact Hpb
  iintro ⟨HO, Hzb, Hh⟩
  unfold hand
  icases Hh with ⟨⟨%f, Ht⟩, #Rpg⟩
  iapply (wp_copy m c _ ht (κ (cell c .sent)) (κ (cell (peer c) .got)) f) $$ [Hm Ht HO Hts Htg]
  · isplitr; · iexact Is
    isplitr; · iexact Ipg
    isplitl [Hm]; · unfold mine part; iexact Hm
    isplitl [Ht]; · iexact Ht
    isplitl [HO]; · iexact HO
    isplitl [Hts]; · iexact Hts
    isplitr; · iexact Rs
    isplitl [Htg]; · iexact Htg
    iexact Rpg
  iintro ⟨Hcs, HO⟩
  iapply (wp_take m c .sent (κ (cell c .sent)) fun K => (wpE_waitDma2_eq Variants.none (c : Thread nD τ) none Set.univ
    (dst := (Memref.whole cc0_scratch0 : Memref sig .tc .vmem S1x1024 .f32)) K).trans (by rw [credit_sent]; rfl)) $$ [Hcs HO Hps]
  · isplitr; · iexact Is
    isplitl [Hcs]; · iexact Hcs
    isplitl [HO]; · iexact HO
    isplitr; · rw [MayWait_zero]; iempintro
    iexact Hps
  iintro ⟨HO, Hzs, Hm⟩
  iapply (wp_take m c .got (κ (cell c .got)) (wpE_waitDma2_eq Variants.none (c : Thread nD τ) none Set.univ
    (dst := (Memref.whole cc0_scratch1 : Memref sig .tc .vmem S1x1024 .f32)))) $$ [Hcg HO Hpg]
  · isplitr; · iexact Ig
    isplitl [Hcg]; · iexact Hcg
    isplitl [HO]; · iexact HO
    isplitr; · rw [MayWait_zero]; iempintro
    iexact Hpg
  iintro ⟨HO, Hzg, Ht⟩
  unfold hand mine theirs
  iapply (wp_read c hz) $$ Hm
  iintro Hm
  iapply (wp_read c hz) $$ Ht
  iintro Ht
  iapply (wp_read c hz) $$ Ho
  iintro Ho
  iapply (wp_fill c hz) $$ Ho
  iintro Ho
  rw [wp_ret]; imodintro
  unfold after mine theirs
  rw [ports_eq]
  isplitl [Hm Ht Hzb Hzs Hzg]
  · isplitl [Hm]; · iexact Hm
    isplitl [Ht]; · iexact Ht
    isplitl [Hzb]; · iexact Hzb
    isplitl [Hzs] <;> iassumption
  isplitl [HO]
  · iexists _; iexact HO
  isplitl [Hx]; · iexact Hx
  iexact Ho

/-- The pipeline's obligation on the body: from what the device enters with to what it leaves. -/
theorem body_obligation (c : Dev nD) : BodyObligation (dats m 0 c) (defs₀ (F := F)) Variants.none () Set.univ := fun t => by
  rw [fin_N0 t, bigSep_W0, bigSep_W0]
  simp only [owns_whole_eq]
  unfold Dat.owesAt Pipeline.owesWithin
  show iprop(before m c ∗ (∃ W, ⌜_⌝ ∗ owes (c : Thread nD τ) (debt c) W) ∗ (∃ d f, ⌜_⌝ ∗ _) ∗ ∃ d f, ⌜_⌝ ∗ _)
    ⊢ wp frame (wpE (defs₀ (F := F)) Variants.none c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => iprop(after m c ∗ (∃ W, ⌜_⌝ ∗ owes (c : Thread nD τ) 0 W) ∗ (∃ f, ⌜f = rows m c⌝ ∗ _) ∗ ∃ f, ⌜f = mean m c⌝ ∗ _))
  unfold before entry share
  rw [ports_eq, ports_eq]
  iintro ⟨⟨⟨⟨%κ, HK, ⟨Hpb, Hps, Hpg⟩, Htb, Hts, Htg⟩, ⟨Hcg, Hcb⟩, Hlev⟩, ⟨%f0, Hm⟩, ⟨%f1, Ht⟩⟩, ⟨%W, %hW, HO⟩, ⟨%d0, %g0, %hg0, Hx⟩, ⟨%d1, %g1, %hg1, Ho⟩⟩
  have hx : g0 = rows m c := by rw [hg0]; unfold Dat.before; rw [if_pos (fetch0_0 t0_0)]; rfl
  subst hx
  iapply ((body_wp m c κ W f0 f1 g1 (target_signal c) (target_copy c)).trans (wp_mono _ _ _ fun _ => ?_)) $$ [HK Hpb Hps Hpg Htb Hts Htg Hcg Hcb Hlev Hm Ht HO Hx Ho]
  rotate_left
  · isplitl [HK]; · iexact HK
    isplitl [Hpb]; · iexact Hpb
    isplitl [Hps]; · iexact Hps
    isplitl [Hpg]; · iexact Hpg
    isplitl [Htb]; · iexact Htb
    isplitl [Hts]; · iexact Hts
    isplitl [Htg]; · iexact Htg
    isplitl [Hcg]; · iexact Hcg
    isplitl [Hcb]; · iexact Hcb
    isplitl [Hlev]; · iexact Hlev
    isplitl [Hm]; · iexact Hm
    isplitl [Ht]; · iexact Ht
    isplitl [HO]; · iexact HO
    isplitl [Hx] <;> iassumption
  iintro ⟨Ha, ⟨%W', HO⟩, Hx, Ho⟩
  isplitl [Ha]; · iexact Ha
  isplitl [HO]
  · iexists W'
    isplitr; · ipureintro; exact fun _ _ => Or.inl trivial
    iexact HO
  isplitl [Hx]
  · iexists _
    isplitr; · ipureintro; rfl
    iexact Hx
  · iexists _
    isplitr; · ipureintro; rfl
    iexact Ho

end Cert.KernelIdeal.Swap

end
-- ==== Proof.KernelIdealRun.lean ====
/- The launch of the four devices: the exchange's ghost state made and dealt, and the whole run. -/
module

public import proofs.«01_k».proof.Proof.KernelIdealBody
public import Idealize.ShloMosaic.Lib.Pipeline.CollectiveSegs
public import Idealize.ShloMosaic.Lib.StableHlo.RunHlo

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghosts ℕ

variable (m : (ℓ : Loc nD τ sig) → Buf (Elt F) ℓ) (ρ : Dev nD → PrngReg)

/-! ## The semaphores -/

/-- The kernel's own two semaphores: its copy's departure and arrival. -/
abbrev osem : Fin 2 → SemLoc sig := ![.dma cc0_scratch2.sem, .dma cc0_scratch3.sem]

/-- The kernel's own semaphores are scoped, distinct, and none of the pipeline's. -/
theorem ownSemFacts : Pipeline.OwnSemFacts cfg0.spec osem := by decide

/-- The kernel's own semaphores at zero are the departure and the arrival at zero. -/
theorem ownSems0_eq (c : Dev nD) : (Pipeline.ownSems0 (Ix := Unit) (Name := ℕ) (U := Ghosts) (Lvl := ℕ) (Val := Elt F) (τ := τ) osem c : sProp 𝕄)
    = iprop(semVal (cell c .sent) 0 ∗ semVal (cell c .got) 0) := by
  rw [Pipeline.ownSems0_eq_of_list c osem [0, 1] (by decide) (by decide)]; rfl

/-- The only semaphore that outlives the kernel is the barrier. -/
theorem unscopedSems0_eq (c : Dev nD) : (unscopedSems0 c : sProp 𝕄) = semVal (cell c .bar) 0 := by
  unfold unscopedSems0; rw [bigSep_eq_bigSepL_of_eq [SemLoc.reg barrierSem] (by decide) (by decide)]; rfl

/-- A conjunction over the exchange's cells, device by device and port by port. -/
theorem cells_eq (Φ : GSem nD τ sig → sProp 𝕄) :
    bigSep cells Φ = bigSep Finset.univ fun c => bigSep Finset.univ fun p => Φ (cell c p) := by
  unfold cells; rw [bigSep_map, bigSep_univ_prod]; rfl

/-! ## The ghost state -/

/-- The right to fill each cell, as made: one token per cell. -/
def toks : Finset (GSem nD τ sig × ℕ × Unit) := cells.map ⟨fun g => (g, 0, ()), fun _ _ h => congrArg Prod.fst h⟩

/-- Each cell is filled by one device: dealing the tokens by cell and by filler is the same. -/
theorem toks_eq : (bigSep toks fun x => dutyTok EX x.1 x.2.1 x.2.2 : sProp 𝕄)
    = bigSep Finset.univ fun c => bigSep Finset.univ fun p => dutyTok EX (cell (fills c p) p) 0 () := by
  have e (x : Dev nD × Port) : fills (fills x.1 x.2) x.2 = x.1 := by
    obtain ⟨c, p⟩ := x; cases p <;> first | rfl | exact peer_peer c
  unfold toks cells
  rw [bigSep_map, bigSep_map, ← bigSep_univ_prod (fun x : Dev nD × Port => (dutyTok EX (cell (fills x.1 x.2) x.2) 0 () : sProp 𝕄)),
    bigSep_univ_equiv (⟨fun x => (fills x.1 x.2, x.2), fun x => (fills x.1 x.2, x.2), fun x => by simp only [e], fun x => by simp only [e]⟩ : Dev nD × Port ≃ Dev nD × Port)]
  rfl

/-- The exchange's ghost state as made, held by device 0 until it is dealt. -/
def made (c : Dev nD) : sProp 𝕄 := if c = 0 then BI.own (EX (launchOf cells ∅ toks)) else iprop(emp)

/-- The ghost state made for the devices one by one is the exchange's initial ghost state. -/
theorem made_eq : (bigSep Finset.univ made : sProp 𝕄) = BI.own (EX (launchOf cells ∅ toks)) := by
  rw [bigSep_univ_eq_bigSepL [(0 : Dev nD), 1, 2, 3] (by decide) (by decide)]
  show iprop(BI.own (EX (launchOf cells ∅ toks)) ∗ emp ∗ emp ∗ emp) = _
  refine Entails.antisymm ?_ ?_
  · show (_ : sProp 𝕄) ⊢ _
    iintro ⟨H, -, -, -⟩; iexact H
  · show (_ : sProp 𝕄) ⊢ _
    iintro H
    isplitl [H]; · iexact H
    isplitr; · iempintro
    isplitr <;> iempintro

/-- All the semaphores at zero and the ghost state as made are what the exchange starts from. -/
theorem gathered : (bigSep Finset.univ fun c => iprop(Pipeline.ownSems0 osem c ∗ unscopedSems0 c ∗ made c) : sProp 𝕄)
    ⊢ iprop(bigSep cells (fun g => (semVal g 0 : sProp 𝕄)) ∗ BI.own (EX (launchOf cells ∅ toks))) := by
  rw [← made_eq, cells_eq, ← bigSep_sep']
  refine bigSep_mono fun c _ => ?_
  rw [ports_eq, ownSems0_eq, unscopedSems0_eq]
  show (_ : sProp 𝕄) ⊢ _
  iintro ⟨⟨Hs, Hg⟩, Hb, Hm⟩
  isplitr [Hm]
  · isplitl [Hb]; · iexact Hb
    isplitl [Hs] <;> iassumption
  iexact Hm

/-- The exchange started: every device gets its share. -/
theorem dealt : (bigSep Finset.univ fun c => iprop(Pipeline.ownSems0 osem c ∗ unscopedSems0 c ∗ made c) : sProp 𝕄)
    ⊢ |={Set.univ}=> bigSep Finset.univ (share m) := by
  refine gathered.trans ((Rounds.fund_launch EX (sched m) (Finset.disjoint_empty_right _) (fun _ h => absurd h (Finset.notMem_empty _)) toks).trans (fupd_mono ?_))
  rw [Finset.union_empty, toks_eq, cells_eq (fun g => (atPos EX g 0 ∅ 0 : sProp 𝕄))]
  iintro ⟨%κ, -, HI, HR, Hat, -, Ht⟩
  iapply (BI.bigSep_with_persistent (R := known m κ)
    (Φ := fun c => iprop((bigSep Finset.univ fun p => atPos EX (cell c p) 0 ∅ 0) ∗ bigSep Finset.univ fun p => dutyTok EX (cell (fills c p) p) 0 ())) fun c _ => ?_) $$ [HI HR Hat Ht]
  rotate_left
  · rw [bigSep_sep']
    unfold known
    isplitl [HI HR]
    · isplitl [HI] <;> iassumption
    isplitl [Hat] <;> iassumption
  unfold share
  iintro ⟨HK, H⟩
  iexists κ
  isplitl [HK] <;> iassumption

/-! ## Into and out of the kernel -/

/-- What each device owes is credited to its peer: device `c` is credited what device `peer c` owes it. -/
theorem credited (c : Dev nD) : (Pipeline.launchCred debt c : sProp 𝕄) ⊢ iprop(cred (tallyAt (cell c .got) () units) ∗ cred (tallyAt (cell c .bar) () 1)) := by
  unfold debt
  rw [Pipeline.launchCred_add]
  exact BIClass.sep_mono (Pipeline.launchCred_tallyAt _ peer peer peer_peer peer_peer () units c) (Pipeline.launchCred_tallyAt _ peer peer peer_peer peer_peer () 1 c)

/-- At the launch a device's share, its credit and the waiting order are what its body starts from. -/
theorem enter (c : Dev nD) : iprop(Pipeline.unscopedRestP Pipeline.Prefetch.none cfg0.spec c (fun b => m ((c : Thread nD τ).loc b)) ∗ levAts ixs lev
      ∗ Pipeline.launchCred debt c ∗ prngReg c (ρ c) ∗ share m c)
    ⊢ |={Set.univ}=> iprop(entry m c ∗ emp) := by
  unfold entry
  iintro ⟨-, Hl, Hc, -, Hs⟩
  ihave Hc := credited c $$ Hc
  imodintro
  isplitl
  · isplitl [Hs]; · iexact Hs
    isplitl [Hc] <;> iassumption
  iempintro

/-- What a device starts from, with its buffers and semaphores, is what the body's first step assumes. -/
theorem begin_body (c : Dev nD) : iprop(entry m c ∗ Pipeline.prefHeld (Ix := Unit) (Val := Elt F) (Name := ℕ) (U := Ghosts) (Lvl := ℕ) Pipeline.Prefetch.none c (fun _ => fullShare.right) (fun k => k.elim0)
      ∗ Pipeline.scopedRest cfg0.spec c) ⊢ (dats m 0 c).Φ 0 := by
  rw [scopedRest0_eq]
  show (_ : sProp 𝕄) ⊢ before m c
  unfold before mine theirs
  iintro ⟨He, -, Hm, Ht⟩
  isplitl [He]; · iexact He
  isplitl [Hm] <;> iassumption

/-- After the body a device gives back its semaphores at zero and its buffers. -/
theorem end_body (c : Dev nD) : (dats m 0 c).Φ (Fin.last cfg0.N) ⊢ iprop(unscopedSems0 c ∗ Pipeline.ownSems0 osem c ∗ Pipeline.scopedRest cfg0.spec c) := by
  rw [scopedRest0_eq, ownSems0_eq, unscopedSems0_eq]
  show after m c ⊢ (_ : sProp 𝕄)
  unfold after mine theirs
  rw [ports_eq]
  iintro ⟨Hm, Ht, Hb, Hs, Hg⟩
  isplitl [Hb]; · iexact Hb
  isplitl [Hs Hg]
  · isplitl [Hs] <;> iassumption
  isplitl [Hm]
  · iexists _; iexact Hm
  · iexists _; iexact Ht

/-- The staging copies may be waited for while the whole debt, or nothing, is owed. -/
theorem staging_waits (c : Dev nD) : (levAts ixs lev : sProp 𝕄) ⊢ Pipeline.cellsWaits cfgs (dats m) () 0 c :=
  Pipeline.cellsWaits_intro cfgs (dats m) () 0 c fun w s t => by
    rcases t with ⟨_ | _, ht⟩
    · exact may_wait_low c _ (by
        show (Port.of? _).elim 0 Port.turn = 0
        fin_cases w <;> fin_cases s <;> (dsimp only; decide))
    · show (_ : sProp 𝕄) ⊢ MayWait _ _ _ 0
      rw [MayWait_zero]; iintro -; iempintro

/-! ## The run -/

/-- Every fair run of the four devices ends, with each device's windows at the pipeline's contents and every semaphore at
    zero. -/
theorem run : θ_run defs (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) embL defs₀ Variants.none m ρ main
    (hmain := fun _ => rfl) (hbody := fun c => body_obligation m c) (hne := block_pos0) (harr := arr_whole0) (hstage := stage_whole0)
    (hshare := fun c w => by unfold Pipeline.Dat.share; split <;> rfl) (hdistinct := winFacts0.arr_inj)
    (O₀ := debt) (howed₀ := fun _ => rfl) (howedN := fun _ => rfl) (L := ixs) (lv := lev) (hL := fun _ h => if_neg h) (hwaits := staging_waits m)
    (G := made) (G' := share m)
    (u₀ := (initOf (Pipeline.cells cfgs cellOf_inj) (Pipeline.launchToks cfgs cellOf_inj), launchOf cells ∅ toks))
    (hu₀ := by
      rw [made_eq]
      exact (ownU_pair _ _).trans fupd_intro)
    (hglob := dealt m) (hA := fun _ _ => rfl) (hpf := fun _ k => k.elim0)
    (X := entry m) (Y := fun c => unscopedSems0 c) (Z := fun _ => iprop(emp))
    (hX := enter m ρ) (hin := begin_body m) (hout := end_body m)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every fair run ends with the argument as it was and every semaphore at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  θ_run_mono (run m ρ) fun r h => ⟨fun c => (h.1 c 0).trans ((dats m 0 c).arrAt_in (0 : Fin 2) rfl _), h.2⟩

end Cert.KernelIdeal.Swap

end
-- ==== Proof.MeanValue.lean ====
/- What the kernel computes: each device's result array after a run, and, at exact arithmetic, its agreement with the
   reference's column means of the whole array. -/
module

public import proofs.«01_k».proof.Proof.KernelIdealRun
public import proofs.«01_k».proof.Proof.Gen.ReferenceIdeal.Run
public import Idealize.ShloMosaic.Lib.Pipeline.ValueKit
public import Idealize.ShloMosaic.Lib.IdealHost
public import Idealize.ShloMosaic.Lib.Pointwise

@[expose] public section

noncomputable section

namespace Cert.KernelIdeal.Swap

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The block staged in is the whole of the device's argument. -/
theorem rows_eq (c : Dev nD) : rows m c = m ((c : Thread nD τ).loc main_arg0) := by
  funext y
  unfold rows
  blk_ext
  · show 0 * 4096 + (y 0).val = (y 0).val
    omega
  · show 0 * 1024 + (y 1).val = (y 1).val
    omega

/-- The block written back is the whole of the device's result. -/
theorem result_eq (c : Dev nD) : (dats m 0 c).arrAt (1 : Fin 2) cfg0.N = mean m c := by
  refine (dats m 0 c).arrAt_eq_of_cover 1 (mean m c) (fun t _ => ?_) (fun i => ⟨t0_0, flush0_1 _, ?_⟩)
  · funext y
    show mean m c _ = _
    blk_ext
    · show 0 = 0
      rfl
    · show (y 1).val = 0 * 1024 + (y 1).val
      omega
  · mem_blk []
    have h0 : (i 0).val < 1 := (i 0).isLt
    have h1 : (i 1).val < 1024 := (i 1).isLt
    show (0 ≤ (i 0).val ∧ (i 0).val < 0 + 1) ∧ 0 * 1024 ≤ (i 1).val ∧ (i 1).val < 0 * 1024 + 1024
    omega

/-- Every run leaves the mean of the pair's columns as each device's result, and its argument as it was. -/
theorem run_value :
    θ_run defs (onTc main) ⟨m, fun _ => 0, ρ⟩ (fun r => ∀ c : Dev nD,
      r.2.mem ((c : Thread nD τ).loc main_v1) = mean m c
        ∧ r.2.mem ((c : Thread nD τ).loc main_arg0) = m ((c : Thread nD τ).loc main_arg0)) :=
  θ_run_mono (θ_run_and (run m ρ) (run_frame m ρ)) fun r h c =>
    ⟨(h.1.1 c 1).trans (result_eq m c), h.2.1 c⟩

end Cert.KernelIdeal.Swap

namespace Cert.Means

open Idealize.ShloMosaic Idealize.ShloMosaic.TcCoe Idealize.SL.Sem
open Cert.KernelIdeal.Swap (rows rows_eq part mean peer)
open scoped BigOperators

/-- The reference's array and result: the whole input and its column means. -/
abbrev Whole : Type := (⟨2, ![8192, 2048]⟩ : Shape).Idx → EReal

/-- The reference's result, as its program prints it, from the whole input. -/
def expected (X : Whole) : (⟨2, ![1, 2048]⟩ : Shape).Idx → EReal :=
  Host.divf (F := Ideal) (φ := .f32) (broadcastInDim Cert.ReferenceIdeal.S1x2048 ![1] Cert.ReferenceIdeal.Gen.bcast_S2048_S1x2048_1
      (Host.reduceAdd (F := Ideal) (φ := .f32) X (constant (F := Ideal) Cert.ReferenceIdeal.S_ .f32 0x00000000#32)
        Cert.ReferenceIdeal.Gen.reducesTo_S8192x2048_S2048_d0 Cert.ReferenceIdeal.Gen.h_S_))
    (broadcastInDim Cert.ReferenceIdeal.S1x2048 ![] Cert.ReferenceIdeal.Gen.bcast_S_S1x2048
      (constant (F := Ideal) Cert.ReferenceIdeal.S_ .f32 0x46000000#32))

/-- The reference's divisor is 8192. -/
theorem ofBits_count : Ideal.ofBits .f32 0x46000000#32 = ((8192 : ℝ) : EReal) := by
  simp [Ideal.ofBits, Ideal.ieee, -EReal.coe_mul]; norm_num

/-- The kernel's factor is the reciprocal of 8192, exactly. -/
theorem ofBits_scale : Ideal.ofBits .f32 0x39000000#32 = (((1 : ℝ) / 8192 : ℝ) : EReal) := by
  simp [Ideal.ofBits, Ideal.ieee, -EReal.coe_mul]; norm_num

/-- A sum over 8192 rows is the sum over the first 4096 and the sum over the last 4096. -/
theorem sum_halves (f : Fin 8192 → EReal) :
    ∑ k, f k = ∑ k : Fin 4096, f ⟨k.val, by omega⟩ + ∑ k : Fin 4096, f ⟨4096 + k.val, by omega⟩ :=
  Fin.sum_univ_add (a := 4096) (b := 4096) f

/-- The reference's result in column `j` is the column's sum over all rows, times the reciprocal of 8192. -/
theorem expected_apply (X : Whole) (j : (⟨2, ![1, 2048]⟩ : Shape).Idx) :
    expected X j = (∑ k : Fin 8192, X (ix2 k (j 1))) * (((1 : ℝ) / 8192 : ℝ) : EReal) := by
  unfold expected
  rw [ValueIdx.hostDivf_apply]
  pointwise []
  rw [ofBits_count, Ideal.div_coe (by norm_num)]

/-- A block's partial sum in column `i` is the sum of that column over the block's rows. -/
theorem sum_rows (x : (⟨2, ![4096, 1024]⟩ : Shape).Idx → EReal) (i : (⟨2, ![1, 1024]⟩ : Shape).Idx) :
    Cert.KernelIdeal.Gen.k0_pay2 (F := Ideal) x i = ∑ k : Fin 4096, x (ix2 k (i 1)) := by
  unfold Cert.KernelIdeal.Gen.k0_pay2
  pointwise []

/-- Two partial sums make the mean: their sum, times the reciprocal of 8192. -/
theorem scaled_apply (a b : (⟨2, ![1, 1024]⟩ : Shape).Idx → EReal) (i : (⟨2, ![1, 1024]⟩ : Shape).Idx) :
    Cert.KernelIdeal.Gen.k0_pay1 (F := Ideal) a b i = (a i + b i) * (((1 : ℝ) / 8192 : ℝ) : EReal) := by
  rw [← ofBits_scale]
  rfl

/-- One column `q` of the whole input, summed over the rows of row block `x`. -/
def half (X : Whole) (q : Fin 2048) (x : Fin 2) : EReal := ∑ k : Fin 4096, X (ix2 ⟨x.val * 4096 + k.val, by omega⟩ q)

/-- The two row blocks' sums, in either order, make the whole column's sum. -/
theorem half_add (X : Whole) (q : Fin 2048) (x y : Fin 2) (h : y.val = 1 - x.val) :
    half X q x + half X q y = ∑ k : Fin 8192, X (ix2 k q) := by
  rw [sum_halves]
  have e0 : half X q 0 = ∑ k : Fin 4096, X (ix2 ⟨k.val, by omega⟩ q) := by
    unfold half
    exact Finset.sum_congr rfl fun k _ => congrArg X (congrArg (ix2 · q) (Fin.ext (by show 0 * 4096 + k.val = k.val; omega)))
  have e1 : half X q 1 = ∑ k : Fin 4096, X (ix2 ⟨4096 + k.val, by omega⟩ q) := by
    unfold half
    exact Finset.sum_congr rfl fun k _ => congrArg X (congrArg (ix2 · q) (Fin.ext (by show 1 * 4096 + k.val = 4096 + k.val; omega)))
  rw [← e0, ← e1]
  rcases (by omega : x.val = 0 ∧ y.val = 1 ∨ x.val = 1 ∧ y.val = 0) with ⟨hx, hy⟩ | ⟨hx, hy⟩
  · rw [show x = 0 from Fin.ext hx, show y = 1 from Fin.ext hy]
  · rw [show x = 1 from Fin.ext hx, show y = 0 from Fin.ext hy, add_comm]

/-- A device's coordinate along the first mesh axis, which names its row block. -/
abbrev xOf (c : Dev Cert.KernelIdeal.nD) : Fin 2 := ⟨c.val / 2, by have := c.isLt; change c.val < 4 at this; omega⟩

/-- The column of the whole array that a device holds as its column `i`. -/
abbrev colOf (c : Dev Cert.KernelIdeal.nD) (i : Fin 1024) : Fin 2048 := ⟨c.val % 2 * 1024 + i.val, by omega⟩

/-- A device's row block, read off the mesh. -/
theorem mesh_row (c : Dev Cert.KernelIdeal.nD) : Layout.meshLin [2, 2] c.val [0] = (xOf c).val := by revert c; decide

/-- A device's column block, read off the mesh. -/
theorem mesh_col (c : Dev Cert.KernelIdeal.nD) : Layout.meshLin [2, 2] c.val [1] = c.val % 2 := by revert c; decide

variable (m : (ℓ : Loc Cert.KernelIdeal.nD Cert.KernelIdeal.τ Cert.KernelIdeal.sig) → Buf (Elt Ideal) ℓ) (X : Whole)

/-- Each device's argument is its block of the whole input. -/
def Holds : Prop := ∀ c : Dev Cert.KernelIdeal.nD, m ((c.tc : Thread Cert.KernelIdeal.nD Cert.KernelIdeal.τ).loc Cert.KernelIdeal.main_arg0)
  = Layout.blockN ⟨2, ![4096, 1024]⟩ ⟨2, ![8192, 2048]⟩ (Layout.meshBlock [2, 2] ![[0], [1]] c) X

/-- A device's partial sum is its columns of the whole input, summed over its row block. -/
theorem part_apply (h : Holds m X) (c : Dev Cert.KernelIdeal.nD) (i : (⟨2, ![1, 1024]⟩ : Shape).Idx) :
    part m c i = half X (colOf c (i 1)) (xOf c) := by
  unfold part half
  refine (sum_rows _ i).trans (Finset.sum_congr rfl fun k _ => ?_)
  rw [rows_eq, show m _ = _ from h c]
  refine congrArg X (funext fun a => Fin.ext ?_)
  match a with
  | 0 => exact congrArg (· * 4096 + k.val) (mesh_row c)
  | 1 => exact congrArg (· * 1024 + (i 1).val) (mesh_col c)

/-- Each device's result is its block of the reference's result. -/
theorem mean_eq (h : Holds m X) (c : Dev Cert.KernelIdeal.nD) :
    mean m c = Layout.blockN ⟨2, ![1, 1024]⟩ ⟨2, ![1, 2048]⟩ (Layout.meshBlock [2, 2] ![[], [1]] c) (expected X) := by
  funext i
  have hp : colOf (peer c) (i 1) = colOf c (i 1) := Fin.ext (by
    show (c.val + 2) % 4 % 2 * 1024 + (i 1).val = c.val % 2 * 1024 + (i 1).val
    omega)
  have hx : (xOf (peer c)).val = 1 - (xOf c).val := by
    have := c.isLt
    change c.val < 4 at this
    show (c.val + 2) % 4 / 2 = 1 - c.val / 2
    omega
  unfold mean
  rw [Layout.blockN_apply, expected_apply]
  refine (scaled_apply _ _ i).trans (congrArg (· * _) ?_)
  rw [part_apply m X h, part_apply m X h, hp, half_add X _ _ _ hx]
  refine Finset.sum_congr rfl fun k _ => congrArg X (congrArg (ix2 k) (Fin.ext ?_))
  exact congrArg (· * 1024 + (i 1).val) (mesh_col c).symm

/-- The reference's run also ends with every semaphore at zero, as its program declares none. -/
theorem reference_quiet (m' : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ⟩ (fun r => (∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0))
        ∧ r.2.sem = fun _ => 0) :=
  θ_run_mono (Cert.ReferenceIdeal.Value.run m' ρ) fun r h => ⟨fun c => (h c).2, sem_eq_zero_of_no_sems (by decide) _⟩

end Cert.Means

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.MeanValue
public import Idealize.ShloMosaic.Adequacy
public import Idealize.ShloMosaic.Init

@[expose] public section

noncomputable section

namespace Cert.Proof

open Idealize.ShloMosaic Idealize.SL.Sem Cert.Kernel

/-- All five claims: the three programs leave their arguments as they were and every semaphore at zero, no operation was
    rewritten, and each device's result is its block of the reference's column means. -/
theorem claim : Cert.Claim := ⟨Cert.Kernel.Gen.facts, Cert.KernelIdeal.Gen.facts, Cert.ReferenceIdeal.Gen.facts,
  fun m g _ => Cert.Kernel.Swap.run_frame m g,
  fun m g _ => Cert.KernelIdeal.Swap.run_frame m g,
  fun m g _ => Cert.Means.reference_quiet m g,
  trivial,
  fun m g m' g' _ hm => ⟨Cert.Means.expected (m' ((0 : Dev Cert.ReferenceIdeal.nD).tc.loc Cert.ReferenceIdeal.main_arg0)),
    θ_run_mono (Cert.KernelIdeal.Swap.run_value m g) fun r h c => ⟨(h c).1.trans (Cert.Means.mean_eq m _ hm c), (h c).2⟩,
    θ_run_mono (Cert.ReferenceIdeal.Value.run m' g') fun r h => h 0⟩⟩

end Cert.Proof

end
